-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x32 : Shape := ⟨2, ![4096, 32]⟩
abbrev S4096x4096 : Shape := ⟨2, ![4096, 4096]⟩
abbrev S32x32x5 : Shape := ⟨3, ![32, 32, 5]⟩
abbrev S5x32x32 : Shape := ⟨3, ![5, 32, 32]⟩
abbrev S160x32 : Shape := ⟨2, ![160, 32]⟩
abbrev S_ : Shape := ⟨0, ![]⟩
abbrev S5x1x1 : Shape := ⟨3, ![5, 1, 1]⟩
abbrev S1 : Shape := ⟨1, ![1]⟩
abbrev S1x1 : Shape := ⟨2, ![1, 1]⟩
abbrev S256x4096 : Shape := ⟨2, ![256, 4096]⟩
abbrev S256x32 : Shape := ⟨2, ![256, 32]⟩
abbrev S512x4096 : Shape := ⟨2, ![512, 4096]⟩
abbrev S512x32 : Shape := ⟨2, ![512, 32]⟩
abbrev S512x160 : Shape := ⟨2, ![512, 160]⟩

abbrev nBuf : Space → Nat
  | .hbm => 23
  | .vmem => 15
  | .smem => 0
  | _ => 0

abbrev bufTy : (tb : Table) → Fin (tcTables nBuf tb) → BufTy
  | .hbm, ⟨0, _⟩ => ⟨S4096x32, .f32⟩
  | .hbm, ⟨1, _⟩ => ⟨S4096x4096, .f32⟩
  | .hbm, ⟨2, _⟩ => ⟨S4096x4096, .f32⟩
  | .hbm, ⟨3, _⟩ => ⟨S32x32x5, .f32⟩
  | .hbm, ⟨4, _⟩ => ⟨S5x32x32, .f32⟩
  | .hbm, ⟨5, _⟩ => ⟨S160x32, .f32⟩
  | .hbm, ⟨6, _⟩ => ⟨S_, .f32⟩
  | .hbm, ⟨7, _⟩ => ⟨S5x1x1, .f32⟩
  | .hbm, ⟨8, _⟩ => ⟨S_, .i32⟩
  | .hbm, ⟨9, _⟩ => ⟨S1, .i32⟩
  | .hbm, ⟨10, _⟩ => ⟨S_, .f32⟩
  | .hbm, ⟨11, _⟩ => ⟨S1x1, .f32⟩
  | .hbm, ⟨12, _⟩ => ⟨S5x1x1, .f32⟩
  | .hbm, ⟨13, _⟩ => ⟨S_, .i32⟩
  | .hbm, ⟨14, _⟩ => ⟨S1, .i32⟩
  | .hbm, ⟨15, _⟩ => ⟨S_, .f32⟩
  | .hbm, ⟨16, _⟩ => ⟨S1x1, .f32⟩
  | .hbm, ⟨17, _⟩ => ⟨S5x1x1, .f32⟩
  | .hbm, ⟨18, _⟩ => ⟨S5x32x32, .f32⟩
  | .hbm, ⟨19, _⟩ => ⟨S5x32x32, .f32⟩
  | .hbm, ⟨20, _⟩ => ⟨S5x32x32, .f32⟩
  | .hbm, ⟨21, _⟩ => ⟨S160x32, .f32⟩
  | .hbm, ⟨22, _⟩ => ⟨S4096x32, .f32⟩
  | .local _ .vmem, ⟨0, _⟩ => ⟨S4096x32, .f32⟩
  | .local _ .vmem, ⟨1, _⟩ => ⟨S160x32, .f32⟩
  | .local _ .vmem, ⟨2, _⟩ => ⟨S4096x32, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | .local _ .vmem, ⟨8, _⟩ => ⟨S4096x4096, .fp8e4m3⟩
  | .local _ .vmem, ⟨9, _⟩ => ⟨S4096x4096, .fp8e4m3⟩
  | .local _ .vmem, ⟨10, _⟩ => ⟨S4096x32, .f32⟩
  | .local _ .vmem, ⟨11, _⟩ => ⟨S4096x32, .f32⟩
  | .local _ .vmem, ⟨12, _⟩ => ⟨S4096x32, .fp8e4m3⟩
  | .local _ .vmem, ⟨13, _⟩ => ⟨S4096x32, .fp8e4m3⟩
  | .local _ .vmem, ⟨14, _⟩ => ⟨S4096x32, .f32⟩
  | _, _ => ⟨S4096x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_c : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_v6 : Ref sig .tc := ⟨.hbm, 14, rfl⟩
abbrev main_call0_cst_2 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_v0 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S160x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S4096x32 : Shape := ⟨2, ![4096, 32]⟩
abbrev S4096x4096 : Shape := ⟨2, ![4096, 4096]⟩
abbrev S32x32x5 : Shape := ⟨3, ![32, 32, 5]⟩
abbrev S4096x32x1 : Shape := ⟨3, ![4096, 32, 1]⟩
abbrev S4096x32x2 : Shape := ⟨3, ![4096, 32, 2]⟩
abbrev S4096x32x5 : Shape := ⟨3, ![4096, 32, 5]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x32, .f32⟩
  | .hbm, ⟨1, _⟩ => ⟨S4096x4096, .f32⟩
  | .hbm, ⟨2, _⟩ => ⟨S4096x4096, .f32⟩
  | .hbm, ⟨3, _⟩ => ⟨S32x32x5, .f32⟩
  | .hbm, ⟨4, _⟩ => ⟨S4096x32x1, .f32⟩
  | .hbm, ⟨5, _⟩ => ⟨S4096x32, .f32⟩
  | .hbm, ⟨6, _⟩ => ⟨S4096x32, .f32⟩
  | .hbm, ⟨7, _⟩ => ⟨S4096x32x1, .f32⟩
  | .hbm, ⟨8, _⟩ => ⟨S4096x32x1, .f32⟩
  | .hbm, ⟨9, _⟩ => ⟨S4096x32x2, .f32⟩
  | .hbm, ⟨10, _⟩ => ⟨S4096x32, .f32⟩
  | .hbm, ⟨11, _⟩ => ⟨S4096x32, .f32⟩
  | .hbm, ⟨12, _⟩ => ⟨S4096x32x1, .f32⟩
  | .hbm, ⟨13, _⟩ => ⟨S4096x32x1, .f32⟩
  | .hbm, ⟨14, _⟩ => ⟨S4096x32x2, .f32⟩
  | .hbm, ⟨15, _⟩ => ⟨S4096x32x5, .f32⟩
  | .hbm, ⟨16, _⟩ => ⟨S4096x32, .f32⟩
  | .hbm, ⟨17, _⟩ => ⟨S4096x32, .f32⟩
  | .hbm, ⟨18, _⟩ => ⟨S4096x32, .f32⟩
  | .hbm, ⟨19, _⟩ => ⟨S_, .f32⟩
  | .hbm, ⟨20, _⟩ => ⟨S4096x32, .f32⟩
  | .hbm, ⟨21, _⟩ => ⟨S4096x32, .f32⟩
  | .hbm, ⟨22, _⟩ => ⟨S_, .f32⟩
  | .hbm, ⟨23, _⟩ => ⟨S4096x32, .f32⟩
  | .hbm, ⟨24, _⟩ => ⟨S4096x32, .f32⟩
  | _, _ => ⟨S4096x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Proof.Rows.lean ====
/- Whole rows of the two matrix products and of the scaled copies, and the facts the stored blocks of every buffer share. -/
module

public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Cheb

open Cert.KernelIdeal Cert.KernelIdeal.Gen Idealize.ShloMosaic

/-- The product of a square matrix and a tall one: entry `(n, i)` is the sum over `k` of `M (n, k) * X (k, i)`. -/
def prod (M : S4096x4096.Idx → EReal) (X : S4096x32.Idx → EReal) : S4096x32.Idx → EReal :=
  fun j => ∑ k : Fin 4096, M (ix2 (j 0) k) * X (ix2 k (j 1))

/-- Each entry times 256. -/
def scaled (M : S4096x4096.Idx → EReal) : S4096x4096.Idx → EReal :=
  fun j => M j * Ideal.ofBits .f32 0x43800000#32

/-- A box of `h` whole rows from row `r`, read at its own index: the row moves by `r`, the column stays. -/
theorem rows_emb {A B h : ℕ} (r : ℕ) (inb : ∀ a, (![r, 0] : Fin 2 → ℕ) a + (![h, B] : Fin 2 → ℕ) a ≤ (⟨2, ![A, B]⟩ : Shape).size a)
    (hr : r + h ≤ A) (p : Fin h) (q : Fin B) :
    (Rect.unit (s := ⟨2, ![A, B]⟩) ![r, 0] ![h, B] inb).emb (ix2 p q) = ix2 ⟨r + p.val, by omega⟩ q := by
  funext a
  apply Fin.ext
  match a with
  | ⟨0, _⟩ => simp [ix2]
  | ⟨1, _⟩ => simp [ix2]

/-- 256 rows of a matrix times a tall one are those rows of the product. -/
theorem prod_rows (M : S4096x4096.Idx → EReal) (X : S4096x32.Idx → EReal) (r : ℕ) (hr : r + 256 ≤ 4096)
    (h : ∀ a, (![r, 0] : Fin 2 → ℕ) a + S256x4096.size a ≤ S4096x4096.size a)
    (h' : ∀ a, (![r, 0] : Fin 2 → ℕ) a + S256x32.size a ≤ S4096x32.size a) {φ φ' : FTy} (w : FVec Ideal S256x4096 φ)
    (hw : w = fun i => M ((Rect.unit (s := S4096x4096) ![r, 0] S256x4096.size h).emb i)) (i : S256x32.Idx) :
    matmul (φ₂ := φ') dot_S256x4096_S4096x32_S256x32_1_0_0_1_n_n none w X (constant S256x32 .f32 0x00000000#32) i
      = prod M X ((Rect.unit (s := S4096x32) ![r, 0] S256x32.size h').emb i) := by
  subst hw
  idx_vars i
  rw [rows_emb (A := 4096) (B := 32) r h' hr i0 i1]
  pointwise [prod]
  refine Finset.sum_congr rfl fun k _ => ?_
  rw [rows_emb (A := 4096) (B := 4096) r h hr i0 k]

/-- The same, stored through a cast that keeps the shape. -/
theorem stored_rows (M : S4096x4096.Idx → EReal) (X : S4096x32.Idx → EReal) (r : ℕ) (hr : r + 256 ≤ 4096)
    (h : ∀ a, (![r, 0] : Fin 2 → ℕ) a + S256x4096.size a ≤ S4096x4096.size a)
    (h' : ∀ a, (![r, 0] : Fin 2 → ℕ) a + S256x32.size a ≤ S4096x32.size a) {φ φ' : FTy} (w : FVec Ideal S256x4096 φ)
    (hw : w = fun i => M ((Rect.unit (s := S4096x4096) ![r, 0] S256x4096.size h).emb i)) (x : FVec Ideal S4096x32 φ')
    (hx : x = X) (i : S256x32.Idx) :
    shapeCast S256x32 (matmul dot_S256x4096_S4096x32_S256x32_1_0_0_1_n_n none w x (constant S256x32 .f32 0x00000000#32))
      shapeCasts_S256x32_S256x32 i = prod M X ((Rect.unit (s := S4096x32) ![r, 0] S256x32.size h').emb i) := by
  subst hx
  rw [← prod_rows (φ' := φ') M x r hr h h' w hw i]
  pointwise

/-- The same, narrowed before it is stored: over the extended reals the narrowing changes nothing. -/
theorem narrow_rows (M : S4096x4096.Idx → EReal) (X : S4096x32.Idx → EReal) (r : ℕ) (hr : r + 256 ≤ 4096)
    (h : ∀ a, (![r, 0] : Fin 2 → ℕ) a + S256x4096.size a ≤ S4096x4096.size a)
    (h' : ∀ a, (![r, 0] : Fin 2 → ℕ) a + S256x32.size a ≤ S4096x32.size a) (w : FVec Ideal S256x4096 .f32)
    (hw : w = fun i => M ((Rect.unit (s := S4096x4096) ![r, 0] S256x4096.size h).emb i)) (x : FVec Ideal S4096x32 .f32)
    (hx : x = X) (i : S256x32.Idx) :
    shapeCast S256x32 (truncf .fp8e4m3 (matmul dot_S256x4096_S4096x32_S256x32_1_0_0_1_n_n none w x
      (constant S256x32 .f32 0x00000000#32)) bitsLt_fp8e4m3_f32) shapeCasts_S256x32_S256x32 i
      = prod M X ((Rect.unit (s := S4096x32) ![r, 0] S256x32.size h').emb i) := by
  subst hx
  rw [← prod_rows (φ' := .f32) M x r hr h h' w hw i]
  pointwise

/-- 256 rows of a matrix, each entry times 256, narrowed and stored, are those rows of the matrix so scaled. -/
theorem scaled_rows (M : S4096x4096.Idx → EReal) (r : ℕ)
    (h : ∀ a, (![r, 0] : Fin 2 → ℕ) a + S256x4096.size a ≤ S4096x4096.size a) (w : FVec Ideal S256x4096 .f32)
    (hw : w = fun i => M ((Rect.unit (s := S4096x4096) ![r, 0] S256x4096.size h).emb i)) (i : S256x4096.Idx) :
    shapeCast S256x4096 (truncf .fp8e4m3 (mulf w (broadcast S256x4096 (Scalar.ofBits .f32 0x43800000#32)))
      bitsLt_fp8e4m3_f32) shapeCasts_S256x4096_S256x4096 i
      = scaled M ((Rect.unit (s := S4096x4096) ![r, 0] S256x4096.size h).emb i) := by
  subst hw
  pointwise [scaled]

/-- A load of a whole buffer after a store of the whole of it reads that store. -/
theorem last_store {S : Shape} {e : EltTy} {sig : RefSig} {κ : Kind} {sp : Space} (v : View sig κ sp S e)
    (w : S.Idx → Elt Ideal e) (L : List (View.Piece (Elt Ideal) S e)) {off : Fin S.rank → ℕ}
    (inb : ∀ a, off a + S.size a ≤ S.size a) (h : ∀ a, off a = 0) :
    v.readCov (⟨Rect.whole S, w⟩ :: L) (Rect.unit off S.size inb).toLoadRect = w := by
  have h0 : off = fun _ => 0 := funext h
  subst h0
  refine (View.readCov_fill v (fun a => by simp) w L (Rect.unit (fun _ => 0) S.size inb) fun _ => rfl).trans ?_
  exact View.ld_unit_zero rfl _ w

/-- A buffer stored in pieces, each a block of `G`, that together cover it: a load of any box of it reads `G` there. -/
theorem load_pieces {S : Shape} {e : EltTy} {sig : RefSig} {κ : Kind} {sp : Space} (v : View sig κ sp S e)
    (G : S.Idx → Elt Ideal e) (L : List (View.Piece (Elt Ideal) S e)) (h : View.PiecesOf G L)
    (hc : ∀ y, ∃ p ∈ L, y ∈ p.1.set) (r : Rect S) : v.readCov L r.toLoadRect = fun x => G (r.emb x) := by
  rw [View.readCov_eq_canon_ld v L r hc, show View.canon L = G from
    funext fun y => View.canon_apply_of_pieces G L h.mem y (hc y)]
  rfl

/-- No pieces: nothing to check. -/
theorem pieces_nil {S : Shape} {e : EltTy} (G : S.Idx → Elt Ideal e) : View.PiecesOf (Val := Elt Ideal) G [] :=
  trivial

/-- One more piece: it is a block of `G`, and so are the others. -/
theorem pieces_cons {S : Shape} {e : EltTy} {G : S.Idx → Elt Ideal e} {r : Rect S}
    {w : r.shape.Idx → Elt Ideal e} {L : List (View.Piece (Elt Ideal) S e)} (h : ∀ i, w i = G (r.emb i))
    (hL : View.PiecesOf G L) : View.PiecesOf G (⟨r, w⟩ :: L) :=
  ⟨h, hL⟩

end Cert.Cheb
end
-- ==== Proof.Buffers.lean ====
/- What the kernel's seven scratch arrays hold once every block of both matrices has been read. Each is stored block by block
   (256 rows at a time); every block is the matching block of one array, so the scratch is that array. -/
module

public import proofs.«01_k».proof.Proof.Rows

@[expose] public section

set_option maxRecDepth 16384

noncomputable section

namespace Cert.Cheb

open Cert.KernelIdeal Cert.KernelIdeal.Gen Idealize.ShloMosaic

variable (c : Dev nD) (arg1 : Memref sig .tc .vmem S4096x32 .f32) (harg1 : arg1.IsWhole)
  (arg6 arg7 arg8 arg9 arg10 : Memref sig .tc .vmem S256x4096 .f32)
  (x : Vec Ideal S4096x32 .f32) (ld lu : S4096x4096.Idx → EReal)

/-- A load of the whole staged input reads the input. -/
theorem input_load {S : Shape} (a : Memref sig .tc .vmem S .f32) (ha : a.IsWhole) (X : Vec Ideal S .f32) {off : Fin S.rank → ℕ}
    (inb : ∀ i, off i + S.size i ≤ S.size i) (h : off = fun _ => 0) :
    View.readAt (Elt Ideal) a.view (Rect.unit off S.size inb).toLoadRect (ha.unread X) = X := by
  rw [View.readAt_eq_ld, ha.read_unread]
  exact View.ld_unit_zero h inb X

/-- The first product, kept exactly: `Ld x`. -/
theorem u1_pieces :
    View.PiecesOf (prod ld x) (kernelRun0_A.sl.HS7_16 (F := Ideal) c arg1 harg1 arg6 arg7 arg8 arg9 arg10 x ld) := by
  unfold kernelRun0_A.sl.HS7_16
  repeat' first | exact pieces_nil _ | refine pieces_cons ?_ ?_
  all_goals refine fun i => stored_rows ld x _ ?_ ?_ ?_ _ ?_ _ (input_load _ _ _ _ ?_) i
  all_goals first | decide | exact last_store _ _ _ _ (by decide)

/-- The first product, narrowed: over the extended reals it is `Ld x` again. -/
theorem u1q_pieces :
    View.PiecesOf (prod ld x) (kernelRun0_A.sl.HS9_16 (F := Ideal) c arg1 harg1 arg6 arg7 arg8 arg9 arg10 x ld) := by
  unfold kernelRun0_A.sl.HS9_16
  repeat' first | exact pieces_nil _ | refine pieces_cons ?_ ?_
  all_goals refine fun i => narrow_rows ld x _ ?_ ?_ ?_ _ ?_ _ (input_load _ _ _ _ ?_) i
  all_goals first | decide | exact last_store _ _ _ _ (by decide)

/-- The first matrix, each entry times 256. -/
theorem ldq_pieces :
    View.PiecesOf (scaled ld) (kernelRun0_A.sl.HS5_16 (F := Ideal) c arg6 arg7 arg8 arg9 arg10 ld) := by
  unfold kernelRun0_A.sl.HS5_16
  repeat' first | exact pieces_nil _ | refine pieces_cons ?_ ?_
  all_goals refine fun i => scaled_rows ld _ ?_ _ ?_ i
  all_goals first | decide | exact last_store _ _ _ _ (by decide)

/-- The second product, kept exactly: `Lu x`. -/
theorem v1_pieces :
    View.PiecesOf (prod lu x) (kernelRun0_A.sl.HS8_16 (F := Ideal) c arg1 harg1 arg6 arg7 arg8 arg9 arg10 x ld lu) := by
  unfold kernelRun0_A.sl.HS8_16
  repeat' first | exact pieces_nil _ | refine pieces_cons ?_ ?_
  all_goals refine fun i => stored_rows lu x _ ?_ ?_ ?_ _ ?_ _ (input_load _ _ _ _ ?_) i
  all_goals first | decide | exact last_store _ _ _ _ (by decide)

/-- The second product, narrowed: `Lu x` again. -/
theorem v1q_pieces :
    View.PiecesOf (prod lu x) (kernelRun0_A.sl.HS10_16 (F := Ideal) c arg1 harg1 arg6 arg7 arg8 arg9 arg10 x ld lu) := by
  unfold kernelRun0_A.sl.HS10_16
  repeat' first | exact pieces_nil _ | refine pieces_cons ?_ ?_
  all_goals refine fun i => narrow_rows lu x _ ?_ ?_ ?_ _ ?_ _ (input_load _ _ _ _ ?_) i
  all_goals first | decide | exact last_store _ _ _ _ (by decide)

/-- The second matrix, each entry times 256. -/
theorem luq_pieces :
    View.PiecesOf (scaled lu) (kernelRun0_A.sl.HS6_16 (F := Ideal) c arg6 arg7 arg8 arg9 arg10 ld lu) := by
  unfold kernelRun0_A.sl.HS6_16
  repeat' first | exact pieces_nil _ | refine pieces_cons ?_ ?_
  all_goals refine fun i => scaled_rows lu _ ?_ _ ?_ i
  all_goals first | decide | exact last_store _ _ _ _ (by decide)

/-! A load of any box of each scratch. -/

variable {sp : Space}

/-- Boxes of the exact first product. -/
theorem u1_load (v : View sig .tc sp S4096x32 .f32) (r : Rect S4096x32) :
    v.readCov (kernelRun0_A.sl.HS7_16 (F := Ideal) c arg1 harg1 arg6 arg7 arg8 arg9 arg10 x ld) r.toLoadRect
      = fun i => prod ld x (r.emb i) :=
  load_pieces v _ _ (u1_pieces c arg1 harg1 arg6 arg7 arg8 arg9 arg10 x ld) (View.cover_of_tiledL _ S256x32.size (by sl_kernel_rfl)) r

/-- Boxes of the narrowed first product. -/
theorem u1q_load (v : View sig .tc sp S4096x32 .fp8e4m3) (r : Rect S4096x32) :
    v.readCov (kernelRun0_A.sl.HS9_16 (F := Ideal) c arg1 harg1 arg6 arg7 arg8 arg9 arg10 x ld) r.toLoadRect
      = fun i => prod ld x (r.emb i) :=
  load_pieces v _ _ (u1q_pieces c arg1 harg1 arg6 arg7 arg8 arg9 arg10 x ld) (View.cover_of_tiledL _ S256x32.size (by sl_kernel_rfl)) r

/-- Boxes of the scaled first matrix. -/
theorem ldq_load (v : View sig .tc sp S4096x4096 .fp8e4m3) (r : Rect S4096x4096) :
    v.readCov (kernelRun0_A.sl.HS5_16 (F := Ideal) c arg6 arg7 arg8 arg9 arg10 ld) r.toLoadRect
      = fun i => scaled ld (r.emb i) :=
  load_pieces v _ _ (ldq_pieces c arg6 arg7 arg8 arg9 arg10 ld) (View.cover_of_tiledL _ S256x4096.size (by sl_kernel_rfl)) r

/-- Boxes of the exact second product. -/
theorem v1_load (v : View sig .tc sp S4096x32 .f32) (r : Rect S4096x32) :
    v.readCov (kernelRun0_A.sl.HS8_16 (F := Ideal) c arg1 harg1 arg6 arg7 arg8 arg9 arg10 x ld lu) r.toLoadRect
      = fun i => prod lu x (r.emb i) :=
  load_pieces v _ _ (v1_pieces c arg1 harg1 arg6 arg7 arg8 arg9 arg10 x ld lu) (View.cover_of_tiledL _ S256x32.size (by sl_kernel_rfl)) r

/-- Boxes of the narrowed second product. -/
theorem v1q_load (v : View sig .tc sp S4096x32 .fp8e4m3) (r : Rect S4096x32) :
    v.readCov (kernelRun0_A.sl.HS10_16 (F := Ideal) c arg1 harg1 arg6 arg7 arg8 arg9 arg10 x ld lu) r.toLoadRect
      = fun i => prod lu x (r.emb i) :=
  load_pieces v _ _ (v1q_pieces c arg1 harg1 arg6 arg7 arg8 arg9 arg10 x ld lu) (View.cover_of_tiledL _ S256x32.size (by sl_kernel_rfl)) r

/-- Boxes of the scaled second matrix. -/
theorem luq_load (v : View sig .tc sp S4096x4096 .fp8e4m3) (r : Rect S4096x4096) :
    v.readCov (kernelRun0_A.sl.HS6_16 (F := Ideal) c arg6 arg7 arg8 arg9 arg10 ld lu) r.toLoadRect
      = fun i => scaled lu (r.emb i) :=
  load_pieces v _ _ (luq_pieces c arg6 arg7 arg8 arg9 arg10 ld lu) (View.cover_of_tiledL _ S256x4096.size (by sl_kernel_rfl)) r

/-- A box that starts at the origin and has the buffer's own sizes is the buffer. -/
theorem whole_emb {S : Shape} {α : Type} (G : S.Idx → α) {off : Fin S.rank → ℕ} (inb : ∀ i, off i + S.size i ≤ S.size i)
    (h : off = fun _ => 0) : (fun i => G ((Rect.unit off S.size inb).emb i)) = G := by
  subst h
  funext i
  refine congrArg G ?_
  funext a
  apply Fin.ext
  simp

variable (arg11 : Memref sig .tc .vmem S4096x4096 .fp8e4m3) (arg15 : Memref sig .tc .vmem S4096x32 .fp8e4m3)

/-- The product of the scaled first matrix with the first product: `(256 Ld) (Ld x)`. -/
theorem zd_pieces :
    View.PiecesOf (prod (scaled ld) (prod ld x))
      (kernelRun0_A.sl.HS11_16 (F := Ideal) c arg1 harg1 arg6 arg7 arg8 arg9 arg10 arg11 arg15 x ld) := by
  unfold kernelRun0_A.sl.HS11_16
  repeat' first | exact pieces_nil _ | refine pieces_cons ?_ ?_
  all_goals
    refine fun i => stored_rows (scaled ld) (prod ld x) _ ?_ ?_ ?_ _ ?_ _
      ((u1q_load c arg1 harg1 arg6 arg7 arg8 arg9 arg10 x ld _ _).trans (whole_emb (prod ld x) _ ?_)) i
  all_goals first | decide | exact ldq_load c arg6 arg7 arg8 arg9 arg10 ld _ _

/-- Boxes of that product. -/
theorem zd_load (v : View sig .tc sp S4096x32 .f32) (r : Rect S4096x32) :
    v.readCov (kernelRun0_A.sl.HS11_16 (F := Ideal) c arg1 harg1 arg6 arg7 arg8 arg9 arg10 arg11 arg15 x ld) r.toLoadRect
      = fun i => prod (scaled ld) (prod ld x) (r.emb i) :=
  load_pieces v _ _ (zd_pieces c arg1 harg1 arg6 arg7 arg8 arg9 arg10 x ld arg11 arg15)
    (View.cover_of_tiledL _ S256x32.size (by sl_kernel_rfl)) r

end Cert.Cheb
end
-- ==== Proof.Output.lean ====
/- What the kernel's output array holds: the five features of each row, weighted by the 160 rows of the weight matrix, through the logistic function. -/
module

public import proofs.«01_k».proof.Proof.Buffers

@[expose] public section

set_option maxRecDepth 16384

noncomputable section

namespace Cert.Cheb

open Cert.KernelIdeal Cert.KernelIdeal.Gen Idealize.ShloMosaic

/-- The logistic of five features of 32 columns each, feature `k` weighted by rows `32 k` to `32 k + 31` of `W`. -/
def mixed (W : S160x32.Idx → EReal) (A B C D E : S4096x32.Idx → EReal) : S4096x32.Idx → EReal := fun j =>
  Ideal.logistic (∑ i : Fin 32,
    (A (ix2 (j 0) i) * W (ix2 ⟨i.val, by omega⟩ (j 1)) + B (ix2 (j 0) i) * W (ix2 ⟨32 + i.val, by omega⟩ (j 1))
      + C (ix2 (j 0) i) * W (ix2 ⟨64 + i.val, by omega⟩ (j 1)) + D (ix2 (j 0) i) * W (ix2 ⟨96 + i.val, by omega⟩ (j 1))
      + E (ix2 (j 0) i) * W (ix2 ⟨128 + i.val, by omega⟩ (j 1))))

/-- A sum over 160 columns, grouped as five runs of 32. -/
theorem sum_five_runs (f : Fin 160 → EReal) :
    ∑ x, f x = ∑ i : Fin 32, (f ⟨i.val, by omega⟩ + f ⟨32 + i.val, by omega⟩ + f ⟨64 + i.val, by omega⟩
      + f ⟨96 + i.val, by omega⟩ + f ⟨128 + i.val, by omega⟩) := by
  have e : ∑ x, f x = ∑ p : Fin 5 × Fin 32, f (finProdFinEquiv p) :=
    (Equiv.sum_comp (finProdFinEquiv (m := 5) (n := 32)) f).symm
  rw [e, Fintype.sum_prod_type, Finset.sum_comm]
  refine Finset.sum_congr rfl fun i _ => ?_
  rw [Fin.sum_univ_five]
  congr 1
  · congr 1
    · congr 1
      · congr 1 <;> refine congrArg f (Fin.ext ?_) <;> simp [finProdFinEquiv] <;> omega
      · refine congrArg f (Fin.ext ?_); simp [finProdFinEquiv]; omega
    · refine congrArg f (Fin.ext ?_); simp [finProdFinEquiv]; omega
  · refine congrArg f (Fin.ext ?_); simp [finProdFinEquiv]; omega

/-- 512 rows of the four stored features and of the scaled second matrix give those rows of the output. -/
theorem out_rows (W : S160x32.Idx → EReal) (A B C D X : S4096x32.Idx → EReal) (M : S4096x4096.Idx → EReal) (r : ℕ)
    (hr : r + 512 ≤ 4096) (h : ∀ a, (![r, 0] : Fin 2 → ℕ) a + S512x4096.size a ≤ S4096x4096.size a)
    (h' : ∀ a, (![r, 0] : Fin 2 → ℕ) a + S512x32.size a ≤ S4096x32.size a)
    (w w' : FVec Ideal S160x32 .f32) (hw : w' = W) (hw' : w = shapeCast S160x32 w' shapeCasts_S160x32_S160x32)
    (q : FVec Ideal S512x4096 .fp8e4m3)
    (hq : q = fun i => M ((Rect.unit (s := S4096x4096) ![r, 0] S512x4096.size h).emb i))
    (e : FVec Ideal S4096x32 .fp8e4m3) (he : e = X) (a b c d : FVec Ideal S512x32 .f32)
    (ha : a = fun i => A ((Rect.unit (s := S4096x32) ![r, 0] S512x32.size h').emb i))
    (hb : b = fun i => B ((Rect.unit (s := S4096x32) ![r, 0] S512x32.size h').emb i))
    (hc : c = fun i => C ((Rect.unit (s := S4096x32) ![r, 0] S512x32.size h').emb i))
    (hd : d = fun i => D ((Rect.unit (s := S4096x32) ![r, 0] S512x32.size h').emb i)) (i : S512x32.Idx) :
    logistic (matmul dot_S512x160_S160x32_S512x32_1_0_0_1_n_n none
      (concatenate S512x160 1 [⟨S512x32, a⟩, ⟨S512x32, b⟩, ⟨S512x32, c⟩, ⟨S512x32, d⟩,
        ⟨S512x32, matmul dot_S512x4096_S4096x32_S512x32_1_0_0_1_n_n none q e (constant S512x32 .f32 0x00000000#32)⟩]
        concatenates_S512x32_S512x32_S512x32_S512x32_S512x32_S512x160_d1)
      w (constant S512x32 .f32 0x00000000#32)) i
      = mixed W A B C D (prod M X) ((Rect.unit (s := S4096x32) ![r, 0] S512x32.size h').emb i) := by
  subst hw hw' hq he ha hb hc hd
  idx_vars i
  rw [rows_emb (A := 4096) (B := 32) r h' hr i0 i1]
  pointwise [mixed, prod]
  refine congrArg Ideal.logistic ?_
  rw [sum_five_runs]
  refine Finset.sum_congr rfl fun k _ => ?_
  have hk := k.isLt
  simp only [rows_emb (A := 4096) (B := 32) r h' hr, rows_emb (A := 4096) (B := 4096) r h hr]
  simp only [show 32 + k.val - 32 = k.val by omega, show 64 + k.val - 32 = 32 + k.val by omega,
    show 96 + k.val - 32 = 64 + k.val by omega, show 128 + k.val - 32 = 96 + k.val by omega, hk,
    show ¬ 32 + k.val < 32 by omega, show ¬ 64 + k.val < 32 by omega, show ¬ 96 + k.val < 32 by omega,
    show ¬ 128 + k.val < 32 by omega, dif_pos, dif_neg, not_false_eq_true, Fin.eta]

variable (c : Dev nD) (i : grid0.Coords)
  (arg1 : Memref sig .tc .vmem S4096x32 .f32) (harg1 : arg1.IsWhole) (arg4 : Memref sig .tc .vmem S160x32 .f32)
  (harg4 : arg4.IsWhole) (arg5 : Memref sig .tc .vmem S4096x32 .f32) (harg5 : arg5.IsWhole)
  (arg6 : Memref sig .tc .vmem S256x4096 .f32) (harg6 : arg6.IsWhole) (arg7 : Memref sig .tc .vmem S256x4096 .f32)
  (harg7 : arg7.IsWhole) (arg8 : Memref sig .tc .vmem S256x4096 .f32) (harg8 : arg8.IsWhole)
  (arg9 : Memref sig .tc .vmem S256x4096 .f32) (harg9 : arg9.IsWhole) (arg10 : Memref sig .tc .vmem S256x4096 .f32)
  (harg10 : arg10.IsWhole) (arg11 : Memref sig .tc .vmem S4096x4096 .fp8e4m3) (harg11 : arg11.IsWhole)
  (arg12 : Memref sig .tc .vmem S4096x4096 .fp8e4m3) (harg12 : arg12.IsWhole) (arg13 : Memref sig .tc .vmem S4096x32 .f32)
  (harg13 : arg13.IsWhole) (arg14 : Memref sig .tc .vmem S4096x32 .f32) (harg14 : arg14.IsWhole)
  (arg15 : Memref sig .tc .vmem S4096x32 .fp8e4m3) (harg15 : arg15.IsWhole) (arg16 : Memref sig .tc .vmem S4096x32 .fp8e4m3)
  (harg16 : arg16.IsWhole) (arg17 : Memref sig .tc .vmem S4096x32 .f32) (harg17 : arg17.IsWhole)
  (x : Vec Ideal S4096x32 .f32) (w : Vec Ideal S160x32 .f32) (ld lu : S4096x4096.Idx → EReal)

/-- The kernel's output as one function of the input, the weights as the kernel stages them and the two matrices. -/
def out (x : S4096x32.Idx → EReal) (w : S160x32.Idx → EReal) (ld lu : S4096x4096.Idx → EReal) : S4096x32.Idx → EReal :=
  mixed w x (prod ld x) (prod (scaled ld) (prod ld x)) (prod lu x) (prod (scaled lu) (prod lu x))

/-- Each of the eight stores of the output is a block of 512 rows of it. -/
theorem out_pieces : View.PiecesOf (out x w ld lu)
    (kernelRun0_A (F := Ideal) c i arg1 harg1 arg4 harg4 arg5 harg5 arg6 harg6 arg7 harg7 arg8 harg8 arg9 harg9 arg10 harg10
      arg11 harg11 arg12 harg12 arg13 harg13 arg14 harg14 arg15 harg15 arg16 harg16 arg17 harg17 x w ld lu).1 := by
  have hx : ∀ (r : Rect S4096x32), View.readAt (Elt Ideal) arg1.view r.toLoadRect (harg1.unread x) = fun i => x (r.emb i) := by
    intro r
    rw [View.readAt_eq_ld, harg1.read_unread]
    rfl
  repeat' first | exact pieces_nil _ | refine pieces_cons ?_ ?_
  all_goals
    refine fun j => out_rows w x (prod ld x) (prod (scaled ld) (prod ld x)) (prod lu x) (prod lu x) (scaled lu) _ ?_ ?_ ?_
      _ _ (input_load arg4 harg4 w _ ?_) rfl _ (luq_load c arg6 arg7 arg8 arg9 arg10 ld lu _ _) _
      ((v1q_load c arg1 harg1 arg6 arg7 arg8 arg9 arg10 x ld lu _ _).trans (whole_emb (prod lu x) _ ?_)) _ _ _ _ (hx _)
      (u1_load c arg1 harg1 arg6 arg7 arg8 arg9 arg10 x ld _ _)
      (zd_load c arg1 harg1 arg6 arg7 arg8 arg9 arg10 x ld arg11 arg15 _ _)
      (v1_load c arg1 harg1 arg6 arg7 arg8 arg9 arg10 x ld lu _ _) j
  all_goals decide

end Cert.Cheb
end
-- ==== Proof.Final.lean ====
/- The kernel's result array after the run. -/
module

public import proofs.«01_k».proof.Proof.Output
public import Idealize.ShloMosaic.Lib.StableHlo.ReadAt
public import Idealize.ShloMosaic.Lib.Routing.OpsSet

@[expose] public section

set_option maxRecDepth 16384

noncomputable section

namespace Cert.Cheb

open Cert.KernelIdeal Cert.KernelIdeal.Gen Idealize.ShloMosaic Idealize.ShloMosaic.TcCoe

variable (m : (ℓ : Loc nD τ sig) → Buf (Elt Ideal) ℓ)

/-- The kernel stages the whole input: its block is the launched array. -/
theorem staged_input (c : Dev nD) : iblk m c 0 t0_0 = m ((c : Thread nD τ).loc main_arg0) := by
  funext y
  rw [← V_main_arg0 m c]
  have e : win0_0.index t0_0 = ![0, 0] := by decide +kernel
  blk_ext [iblk, e]

/-- It stages the whole weight matrix, as the host left it. -/
theorem staged_weights (c : Dev nD) : iblk m c 1 t0_0 = V m c main_call0_v12 := by
  funext y
  have e : win0_1.index t0_0 = ![0, 0] := by decide +kernel
  blk_ext [iblk, e]

/-- The result array is `out` of the launched arguments and of the weights as the host prepares them. -/
theorem final (c : Dev nD) : (dats m 0 c).arrAt 2 (cfgs 0).N
    = out (m ((c : Thread nD τ).loc main_arg0)) (V m c main_call0_v12) (m ((c : Thread nD τ).loc main_arg1))
        (m ((c : Thread nD τ).loc main_arg2)) := by
  refine (dats m 0 c).arrAt_eq_of_after_last 2 t0_0 (by decide +kernel) _ fun j => ?_
  blk_simp
  rw [after0_2]
  unfold outsAt0 out0_A_2
  rw [View.read_writes_junk_eq_canon]
  refine (View.canon_apply_of_pieces _ _ (View.PiecesOf.mem (out_pieces c _ _ _ _ _ _ _ _ _ _ _ _ _ _ _ _ _ _ _ _ _ _ _ _ _
    _ _ _ _ _ _ _ _ _ _)) _ (cover0_A_2 c _ _ _ _ _ _ _ _ _ _ _ _ _ _ _ _ _ _ _ _ _ _ _ _ _ _ _ _ _ _ _ _ _ _ _ _)).trans ?_
  rw [staged_input, staged_weights, V_main_arg1, V_main_arg2]

/-- An update of the five scales writes row `n` and no other. -/
theorem row_written : ∀ (n k : Fin 5) (u : S1x1.Idx),
    scatter_S5x1x1_S1_S1x1_01_0_0_0.resultIdx? u (fun _ => BitVec.ofNat 32 n.val) = some (ix3 k 0 0) ↔ k = n := by
  decide +kernel

/-- The five scales after the update of row `n` by the value `v`. -/
theorem scale_at (x : S5x1x1.Idx → EReal) (idx : IVec S1 32) (upd : S1x1.Idx → EReal) (n : Fin 5)
    (hn : idx = fun _ => BitVec.ofNat 32 n.val) (v : EReal) (hv : ∀ u, upd u = v) (k : Fin 5) :
    Host.scatter scatter_S5x1x1_S1_S1x1_01_0_0_0 (fun _ b => b) x idx upd (ix3 k 0 0)
      = if k = n then v else x (ix3 k 0 0) := by
  subst hn
  by_cases e : k = n
  · rw [if_pos e]
    exact Routing.scatter_set_hit _ _ _ _ _ v (fun u _ => hv u) (ix2 0 0) ((row_written n k _).2 e)
  · rw [if_neg e]
    exact Routing.scatter_set_miss _ _ _ _ _ fun u h => e ((row_written n k u).1 h)

/-- The scale of feature `k`: 1/256 for the two features the kernel computes 256 times too large, one for the others. -/
def scale (k : Fin 5) : EReal :=
  if k = 4 then Ideal.ofBits .f32 0x3B800000#32 else if k = 2 then Ideal.ofBits .f32 0x3B800000#32 else 1

/-- The five scales as the host prepares them. -/
theorem scales (k : Fin 5) :
    Host.scatter scatter_S5x1x1_S1_S1x1_01_0_0_0 (fun _ b => b)
        (Host.scatter scatter_S5x1x1_S1_S1x1_01_0_0_0 (fun _ b => b)
          (broadcastInDim S5x1x1 ![] bcast_S_S5x1x1 (constant (F := Ideal) S_ .f32 0x3F800000#32))
          (broadcastInDim S1 ![] bcast_S_S1 (constantI S_ 32 2#32))
          (broadcastInDim S1x1 ![] bcast_S_S1x1 (constant S_ .f32 0x3B800000#32)))
        (broadcastInDim S1 ![] bcast_S_S1 (constantI S_ 32 4#32))
        (broadcastInDim S1x1 ![] bcast_S_S1x1 (constant S_ .f32 0x3B800000#32)) (ix3 k 0 0) = scale k := by
  refine (scale_at _ _ _ 4 (funext fun _ => rfl) (Ideal.ofBits .f32 0x3B800000#32) (fun _ => rfl) k).trans ?_
  unfold scale
  refine if_congr Iff.rfl rfl ?_
  refine (scale_at _ _ _ 2 (funext fun _ => rfl) (Ideal.ofBits .f32 0x3B800000#32) (fun _ => rfl) k).trans ?_
  exact if_congr Iff.rfl rfl Ideal.ofBits_one_f32

/-- Row `32 k + i` of the prepared weights is row `i` of the weights of feature `k`, times the scale of that feature. -/
theorem weights (c : Dev nD) (w : S32x32x5.Idx → EReal) (hw : m ((c : Thread nD τ).loc main_arg3) = w) (r : Fin 160)
    (o : Fin 32) (k : Fin 5) (i : Fin 32) (hr : r.val = 32 * k.val + i.val) :
    @Eq EReal (V m c main_call0_v12 (ix2 r o)) (w (ix3 i o k) * scale k) := by
  subst hw
  have hi : (r.val / 32 * 32 + r.val % 32) % 32 = i.val := by omega
  have hj : (r.val / 32 * 32 + r.val % 32) / 32 = k.val := by omega
  have hk : r.val / 32 = k.val := by omega
  unfold V
  after_reads_at
  exact congrArg₂ (fun a b : EReal => a * b)
    (congrArg _ (congrArg₂ (fun a b => ix3 a o b) (Fin.ext hi) (Fin.ext hj)))
    ((congrArg _ (congrArg (fun a => ix3 a 0 0) (Fin.ext hk))).trans (scales k))

end Cert.Cheb
end
-- ==== Proof.Plain.lean ====
/- The reference's result, and its equality with the kernel's. -/
module

public import proofs.«01_k».proof.Proof.Final
public import proofs.«01_k».proof.Proof.Gen.ReferenceIdeal.Run

@[expose] public section

set_option maxRecDepth 16384

noncomputable section

namespace Cert.Cheb

open Cert.KernelIdeal Idealize.ShloMosaic

/-- The pattern `0x43800000` is 256. -/
theorem ofBits_256 : Ideal.ofBits .f32 0x43800000#32 = ((256 : ℝ) : EReal) := by
  simp [Ideal.ofBits, Ideal.ieee, -EReal.coe_mul]; norm_num

/-- The pattern `0x3B800000` is one over 256. -/
theorem ofBits_inv_256 : Ideal.ofBits .f32 0x3B800000#32 = (((256 : ℝ)⁻¹ : ℝ) : EReal) := by
  simp [Ideal.ofBits, Ideal.ieee, -EReal.coe_mul]; norm_num

/-- A nonnegative real factor moves out of any sum of extended reals. -/
theorem sum_mul_real {ι : Type} (s : Finset ι) (f : ι → EReal) (a : ℝ) (ha : 0 ≤ a) :
    ∑ i ∈ s, (a : EReal) * f i = (a : EReal) * ∑ i ∈ s, f i := by
  classical
  induction s using Finset.induction_on with
  | empty => simp
  | insert b t hb ih =>
    rw [Finset.sum_insert hb, Finset.sum_insert hb, ih, EReal.left_distrib_of_nonneg_of_ne_top (by exact_mod_cast ha) (EReal.coe_ne_top a)]

/-- The product with the matrix scaled by 256, weighted by a weight over 256, is the plain product weighted by that weight. -/
theorem unscale (M : S4096x4096.Idx → EReal) (X : S4096x32.Idx → EReal) (j : S4096x32.Idx) (w : EReal) :
    prod (scaled M) X j * (w * Ideal.ofBits .f32 0x3B800000#32) = prod M X j * w := by
  have e : prod (scaled M) X j = ((256 : ℝ) : EReal) * prod M X j := by
    unfold prod scaled
    rw [← sum_mul_real _ _ _ (by norm_num)]
    exact Finset.sum_congr rfl fun k _ => by rw [ofBits_256, mul_comm (M _) _, mul_assoc]
  have u : ((256 : ℝ) : EReal) * (((256 : ℝ)⁻¹ : ℝ) : EReal) = 1 := by
    rw [← EReal.coe_mul, mul_inv_cancel₀ (by norm_num), EReal.coe_one]
  rw [e, ofBits_inv_256, mul_comm w, mul_mul_mul_comm, u, one_mul]

/-- The logistic of the five plain features, feature `k` weighted by the weights `w (·, ·, k)`. -/
def plain (x : S4096x32.Idx → EReal) (w : S32x32x5.Idx → EReal) (ld lu : S4096x4096.Idx → EReal) : S4096x32.Idx → EReal := fun j =>
  Ideal.logistic (∑ i : Fin 32,
    (x (ix2 (j 0) i) * w (ix3 i (j 1) 0) + prod ld x (ix2 (j 0) i) * w (ix3 i (j 1) 1)
      + prod ld (prod ld x) (ix2 (j 0) i) * w (ix3 i (j 1) 2) + prod lu x (ix2 (j 0) i) * w (ix3 i (j 1) 3)
      + prod lu (prod lu x) (ix2 (j 0) i) * w (ix3 i (j 1) 4)))

/-- The kernel's output, at weights prepared by the scales, is `plain`. -/
theorem out_eq_plain (x : S4096x32.Idx → EReal) (W : S160x32.Idx → EReal) (w : S32x32x5.Idx → EReal)
    (ld lu : S4096x4096.Idx → EReal)
    (hW : ∀ (r : Fin 160) (o : Fin 32) (k : Fin 5) (i : Fin 32), r.val = 32 * k.val + i.val →
      W (ix2 r o) = w (ix3 i o k) * scale k) :
    out x W ld lu = plain x w ld lu := by
  funext j
  refine congrArg Ideal.logistic (Finset.sum_congr rfl fun i _ => ?_)
  have s0 : scale 0 = 1 := rfl
  have s1 : scale 1 = 1 := rfl
  have s2 : scale 2 = Ideal.ofBits .f32 0x3B800000#32 := rfl
  have s3 : scale 3 = 1 := rfl
  have s4 : scale 4 = Ideal.ofBits .f32 0x3B800000#32 := rfl
  rw [hW ⟨i.val, _⟩ (j 1) 0 i (by simp), hW ⟨32 + i.val, _⟩ (j 1) 1 i (by simp), hW ⟨64 + i.val, _⟩ (j 1) 2 i (by simp),
    hW ⟨96 + i.val, _⟩ (j 1) 3 i (by simp), hW ⟨128 + i.val, _⟩ (j 1) 4 i (by simp), s0, s1, s2, s3, s4, unscale, unscale,
    mul_one, mul_one, mul_one]

end Cert.Cheb

namespace Cert.Cheb.Ref

open Cert.ReferenceIdeal Cert.ReferenceIdeal.Gen Idealize.ShloMosaic

/-- The reference's operations, composed, are `plain`. -/
theorem value (x : FVec Ideal S4096x32 .f32) (w : FVec Ideal S32x32x5 .f32) (ld lu : FVec Ideal S4096x4096 .f32) :
    Host.divf (broadcastInDim S4096x32 ![] bcast_S_S4096x32 (constant (F := Ideal) S_ .f32 0x3F800000#32)) (addf (broadcastInDim S4096x32 ![] bcast_S_S4096x32 (constant (F := Ideal) S_ .f32 0x3F800000#32)) (Host.exp (Host.negf (Host.dotGeneral dot_S4096x32x5_S32x32x5_S4096x32_12_02_0_1_n_n none ((concatenate S4096x32x5 2 [⟨S4096x32x1, ((broadcastInDim S4096x32x1 ![0, 1] bcast_S4096x32_S4096x32x1_0_1 x))⟩, ⟨S4096x32x2, ((concatenate S4096x32x2 2 [⟨S4096x32x1, (broadcastInDim S4096x32x1 ![0, 1] bcast_S4096x32_S4096x32x1_0_1 (Host.dotGeneral dot_S4096x4096_S4096x32_S4096x32_1_0_0_1_n_n none ld x))⟩, ⟨S4096x32x1, (broadcastInDim S4096x32x1 ![0, 1] bcast_S4096x32_S4096x32x1_0_1 (Host.dotGeneral dot_S4096x4096_S4096x32_S4096x32_1_0_0_1_n_n none ld (Host.dotGeneral dot_S4096x4096_S4096x32_S4096x32_1_0_0_1_n_n none ld x)))⟩] concatenates_S4096x32x1_S4096x32x1_S4096x32x2_d2))⟩, ⟨S4096x32x2, ((concatenate S4096x32x2 2 [⟨S4096x32x1, (broadcastInDim S4096x32x1 ![0, 1] bcast_S4096x32_S4096x32x1_0_1 (Host.dotGeneral dot_S4096x4096_S4096x32_S4096x32_1_0_0_1_n_n none lu x))⟩, ⟨S4096x32x1, (broadcastInDim S4096x32x1 ![0, 1] bcast_S4096x32_S4096x32x1_0_1 (Host.dotGeneral dot_S4096x4096_S4096x32_S4096x32_1_0_0_1_n_n none lu (Host.dotGeneral dot_S4096x4096_S4096x32_S4096x32_1_0_0_1_n_n none lu x)))⟩] concatenates_S4096x32x1_S4096x32x1_S4096x32x2_d2))⟩] concatenates_S4096x32x1_S4096x32x2_S4096x32x2_S4096x32x5_d2)) w)))) = plain x w ld lu := by
  funext j
  idx_vars j
  pointwise [plain, prod]
  refine congrArg Ideal.logistic (Finset.sum_congr rfl fun i _ => ?_)
  rw [Fin.sum_univ_five]
  rfl

end Cert.Cheb.Ref
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Plain
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference leaves its arguments unchanged; it has no semaphore, so every counter ends at zero. -/
theorem reference_frame : Cert.quiescent_ReferenceIdeal (hReferenceIdeal := Cert.ReferenceIdeal.Gen.facts) := by
  intro m g _
  exact (θ_run _ _ _).mono (fun r h => ⟨fun c => (h c).2, sem_eq_zero_of_no_sems (by decide) r.2⟩)
    (Cert.ReferenceIdeal.Value.run m g)

/-- The kernel and the reference end with the same array: each is `plain` of the launched arguments. -/
theorem equal : Cert.algebraic_KernelIdeal_ReferenceIdeal (hKernelIdeal := Cert.KernelIdeal.Gen.facts)
    (hReferenceIdeal := Cert.ReferenceIdeal.Gen.facts) := by
  intro m g m' g' _ same
  refine ⟨fun c => (Cert.KernelIdeal.Gen.dats m 0 c).arrAt 2 Cert.KernelIdeal.cfg0.N, ?_, ?_⟩
  · exact Cert.KernelIdeal.Value.run_blocks m g
  · refine (θ_run _ _ _).mono (fun r h c => ⟨(h c).1.trans ?_, (h c).2⟩) (Cert.ReferenceIdeal.Value.run m' g')
    rw [(same c).1, (same c).2.1, (same c).2.2.1, (same c).2.2.2]
    refine (Cert.Cheb.Ref.value _ _ _ _).trans (Eq.symm ((Cert.Cheb.final m c).trans ?_))
    exact Cert.Cheb.out_eq_plain _ _ _ _ _ fun r o k i hr => Cert.Cheb.weights m c _ rfl r o k i hr

/-- Everything the certificate claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, equal⟩

end Cert.Proof

end
